-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x11520 : Shape := ⟨3, ![1, 256, 11520]⟩
abbrev S11520x1440 : Shape := ⟨2, ![11520, 1440]⟩
abbrev S11520x90 : Shape := ⟨2, ![11520, 90]⟩
abbrev S256x11520 : Shape := ⟨2, ![256, 11520]⟩
abbrev S1440x11520 : Shape := ⟨2, ![1440, 11520]⟩
abbrev S90x11520 : Shape := ⟨2, ![90, 11520]⟩
abbrev S2880x256 : Shape := ⟨2, ![2880, 256]⟩
abbrev S256x1280 : Shape := ⟨2, ![256, 1280]⟩
abbrev S1440x1280 : Shape := ⟨2, ![1440, 1280]⟩
abbrev S90x1280 : Shape := ⟨2, ![90, 1280]⟩
abbrev S2880x1280 : Shape := ⟨2, ![2880, 1280]⟩
abbrev S32x1280 : Shape := ⟨2, ![32, 1280]⟩
abbrev S2x1280 : Shape := ⟨2, ![2, 1280]⟩
abbrev S64x1280 : Shape := ⟨2, ![64, 1280]⟩
abbrev S1x1280 : Shape := ⟨2, ![1, 1280]⟩
abbrev S16x1280 : Shape := ⟨2, ![16, 1280]⟩
abbrev S256x2880 : Shape := ⟨2, ![256, 2880]⟩
abbrev S1x256x2880 : Shape := ⟨3, ![1, 256, 2880]⟩

abbrev nBuf : Space → Nat
  | .hbm => 9
  | .vmem => 9
  | .smem => 0
  | _ => 0

abbrev bufTy : (tb : Table) → Fin (tcTables nBuf tb) → BufTy
  | .hbm, ⟨0, _⟩ => ⟨S1x256x11520, .bf16⟩
  | .hbm, ⟨1, _⟩ => ⟨S11520x1440, .i8⟩
  | .hbm, ⟨2, _⟩ => ⟨S11520x90, .i8⟩
  | .hbm, ⟨3, _⟩ => ⟨S256x11520, .bf16⟩
  | .hbm, ⟨4, _⟩ => ⟨S1440x11520, .i8⟩
  | .hbm, ⟨5, _⟩ => ⟨S90x11520, .i8⟩
  | .hbm, ⟨6, _⟩ => ⟨S2880x256, .bf16⟩
  | .hbm, ⟨7, _⟩ => ⟨S256x2880, .bf16⟩
  | .hbm, ⟨8, _⟩ => ⟨S1x256x2880, .bf16⟩
  | .local _ .vmem, ⟨0, _⟩ => ⟨S256x1280, .bf16⟩
  | .local _ .vmem, ⟨1, _⟩ => ⟨S256x1280, .bf16⟩
  | .local _ .vmem, ⟨2, _⟩ => ⟨S1440x1280, .i8⟩
  | .local _ .vmem, ⟨3, _⟩ => ⟨S1440x1280, .i8⟩
  | .local _ .vmem, ⟨4, _⟩ => ⟨S90x1280, .i8⟩
  | .local _ .vmem, ⟨5, _⟩ => ⟨S90x1280, .i8⟩
  | .local _ .vmem, ⟨6, _⟩ => ⟨S2880x256, .bf16⟩
  | .local _ .vmem, ⟨7, _⟩ => ⟨S2880x1280, .bf16⟩
  | .local _ .vmem, ⟨8, _⟩ => ⟨S2880x256, .f32⟩
  | _, _ => ⟨S1x256x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32_881 : BitVec 32 := 8#32
  let v2720 : BitVec 1 := Scalar.cmpi .eq arg0 c8_i32_881
  let v2721 : BitVec 32 := Scalar.extui v2720
  let c0_i32_882 : BitVec 32 := 0#32
  let v2722 : BitVec 1 := Scalar.cmpi .ne v2721 c0_i32_882
  v2722

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1440x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S90x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2880x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1x256x11520 : Shape := ⟨3, ![1, 256, 11520]⟩
abbrev S11520x1440 : Shape := ⟨2, ![11520, 1440]⟩
abbrev S11520x90 : Shape := ⟨2, ![11520, 90]⟩
abbrev S2 : Shape := ⟨1, ![2]⟩
abbrev S_ : Shape := ⟨0, ![]⟩
abbrev S11520x1x1440 : Shape := ⟨3, ![11520, 1, 1440]⟩
abbrev S1x2x1 : Shape := ⟨3, ![1, 2, 1]⟩
abbrev S11520x2x1440 : Shape := ⟨3, ![11520, 2, 1440]⟩
abbrev S11520x2x90x16 : Shape := ⟨4, ![11520, 2, 90, 16]⟩
abbrev S11520x1x90x1 : Shape := ⟨4, ![11520, 1, 90, 1]⟩
abbrev S2x1440x1x256 : Shape := ⟨4, ![2, 1440, 1, 256]⟩
abbrev S1x256x1440x2 : Shape := ⟨4, ![1, 256, 1440, 2]⟩
abbrev S1x256x2880 : Shape := ⟨3, ![1, 256, 2880]⟩

abbrev nBuf : Space → Nat
  | .hbm => 75
  | .vmem => 0
  | .smem => 0
  | _ => 0

abbrev bufTy : (tb : Table) → Fin (tcTables nBuf tb) → BufTy
  | .hbm, ⟨0, _⟩ => ⟨S1x256x11520, .bf16⟩
  | .hbm, ⟨1, _⟩ => ⟨S11520x1440, .i8⟩
  | .hbm, ⟨2, _⟩ => ⟨S11520x90, .i8⟩
  | .hbm, ⟨3, _⟩ => ⟨S2, .i32⟩
  | .hbm, ⟨4, _⟩ => ⟨S11520x90, .i32⟩
  | .hbm, ⟨5, _⟩ => ⟨S_, .i32⟩
  | .hbm, ⟨6, _⟩ => ⟨S11520x90, .i32⟩
  | .hbm, ⟨7, _⟩ => ⟨S11520x90, .i32⟩
  | .hbm, ⟨8, _⟩ => ⟨S_, .f32⟩
  | .hbm, ⟨9, _⟩ => ⟨S11520x90, .f32⟩
  | .hbm, ⟨10, _⟩ => ⟨S11520x90, .f32⟩
  | .hbm, ⟨11, _⟩ => ⟨S11520x90, .f32⟩
  | .hbm, ⟨12, _⟩ => ⟨S_, .i32⟩
  | .hbm, ⟨13, _⟩ => ⟨S11520x90, .i32⟩
  | .hbm, ⟨14, _⟩ => ⟨S11520x90, .i1⟩
  | .hbm, ⟨15, _⟩ => ⟨S_, .i32⟩
  | .hbm, ⟨16, _⟩ => ⟨S11520x90, .i32⟩
  | .hbm, ⟨17, _⟩ => ⟨S11520x90, .i1⟩
  | .hbm, ⟨18, _⟩ => ⟨S_, .f32⟩
  | .hbm, ⟨19, _⟩ => ⟨S_, .f32⟩
  | .hbm, ⟨20, _⟩ => ⟨S11520x90, .f32⟩
  | .hbm, ⟨21, _⟩ => ⟨S11520x90, .f32⟩
  | .hbm, ⟨22, _⟩ => ⟨S_, .f32⟩
  | .hbm, ⟨23, _⟩ => ⟨S_, .f32⟩
  | .hbm, ⟨24, _⟩ => ⟨S11520x90, .f32⟩
  | .hbm, ⟨25, _⟩ => ⟨S11520x90, .f32⟩
  | .hbm, ⟨26, _⟩ => ⟨S11520x90, .bf16⟩
  | .hbm, ⟨27, _⟩ => ⟨S11520x1440, .i32⟩
  | .hbm, ⟨28, _⟩ => ⟨S11520x1x1440, .i32⟩
  | .hbm, ⟨29, _⟩ => ⟨S1x2x1, .i32⟩
  | .hbm, ⟨30, _⟩ => ⟨S11520x2x1440, .i32⟩
  | .hbm, ⟨31, _⟩ => ⟨S11520x2x1440, .i32⟩
  | .hbm, ⟨32, _⟩ => ⟨S11520x2x1440, .i32⟩
  | .hbm, ⟨33, _⟩ => ⟨S_, .i32⟩
  | .hbm, ⟨34, _⟩ => ⟨S11520x2x1440, .i32⟩
  | .hbm, ⟨35, _⟩ => ⟨S11520x2x1440, .i32⟩
  | .hbm, ⟨36, _⟩ => ⟨S_, .i32⟩
  | .hbm, ⟨37, _⟩ => ⟨S11520x2x1440, .i32⟩
  | .hbm, ⟨38, _⟩ => ⟨S11520x2x1440, .i32⟩
  | .hbm, ⟨39, _⟩ => ⟨S_, .i32⟩
  | .hbm, ⟨40, _⟩ => ⟨S11520x2x1440, .i32⟩
  | .hbm, ⟨41, _⟩ => ⟨S11520x2x1440, .i1⟩
  | .hbm, ⟨42, _⟩ => ⟨S_, .i32⟩
  | .hbm, ⟨43, _⟩ => ⟨S11520x2x1440, .i32⟩
  | .hbm, ⟨44, _⟩ => ⟨S11520x2x1440, .i32⟩
  | .hbm, ⟨45, _⟩ => ⟨S_, .i32⟩
  | .hbm, ⟨46, _⟩ => ⟨S11520x2x1440, .i32⟩
  | .hbm, ⟨47, _⟩ => ⟨S11520x2x1440, .i32⟩
  | .hbm, ⟨48, _⟩ => ⟨S_, .i32⟩
  | .hbm, ⟨49, _⟩ => ⟨S11520x2x1440, .i32⟩
  | .hbm, ⟨50, _⟩ => ⟨S11520x2x1440, .i1⟩
  | .hbm, ⟨51, _⟩ => ⟨S_, .i32⟩
  | .hbm, ⟨52, _⟩ => ⟨S_, .i32⟩
  | .hbm, ⟨53, _⟩ => ⟨S11520x2x1440, .i32⟩
  | .hbm, ⟨54, _⟩ => ⟨S11520x2x1440, .i32⟩
  | .hbm, ⟨55, _⟩ => ⟨S11520x2x1440, .i32⟩
  | .hbm, ⟨56, _⟩ => ⟨S11520x2x1440, .i32⟩
  | .hbm, ⟨57, _⟩ => ⟨S_, .i32⟩
  | .hbm, ⟨58, _⟩ => ⟨S11520x2x1440, .i32⟩
  | .hbm, ⟨59, _⟩ => ⟨S11520x2x1440, .i32⟩
  | .hbm, ⟨60, _⟩ => ⟨S_, .i32⟩
  | .hbm, ⟨61, _⟩ => ⟨S11520x2x1440, .i32⟩
  | .hbm, ⟨62, _⟩ => ⟨S11520x2x1440, .i32⟩
  | .hbm, ⟨63, _⟩ => ⟨S11520x2x1440, .i32⟩
  | .hbm, ⟨64, _⟩ => ⟨S11520x2x1440, .i16⟩
  | .hbm, ⟨65, _⟩ => ⟨S11520x2x1440, .bf16⟩
  | .hbm, ⟨66, _⟩ => ⟨S11520x2x90x16, .bf16⟩
  | .hbm, ⟨67, _⟩ => ⟨S11520x1x90x1, .bf16⟩
  | .hbm, ⟨68, _⟩ => ⟨S11520x2x90x16, .bf16⟩
  | .hbm, ⟨69, _⟩ => ⟨S11520x2x90x16, .bf16⟩
  | .hbm, ⟨70, _⟩ => ⟨S11520x2x1440, .bf16⟩
  | .hbm, ⟨71, _⟩ => ⟨S2x1440x1x256, .f32⟩
  | .hbm, ⟨72, _⟩ => ⟨S1x256x1440x2, .f32⟩
  | .hbm, ⟨73, _⟩ => ⟨S1x256x1440x2, .bf16⟩
  | .hbm, ⟨74, _⟩ => ⟨S1x256x2880, .bf16⟩
  | _, _ => ⟨S1x256x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_v25 : Ref sig .tc := ⟨.hbm, 43, rfl⟩
abbrev main_v26 : Ref sig .tc := ⟨.hbm, 44, rfl⟩
abbrev main_c_9 : Ref sig .tc := ⟨.hbm, 45, rfl⟩
abbrev main_v27 : Ref sig .tc := ⟨.hbm, 46, rfl⟩
abbrev main_v28 : Ref sig .tc := ⟨.hbm, 47, rfl⟩
abbrev main_c_10 : Ref sig .tc := ⟨.hbm, 48, rfl⟩
abbrev main_v29 : Ref sig .tc := ⟨.hbm, 49, rfl⟩
abbrev main_v30 : Ref sig .tc := ⟨.hbm, 50, rfl⟩
abbrev main_c_11 : Ref sig .tc := ⟨.hbm, 51, rfl⟩
abbrev main_c_12 : Ref sig .tc := ⟨.hbm, 52, rfl⟩
abbrev main_call2_v0 : Ref sig .tc := ⟨.hbm, 53, rfl⟩
abbrev main_call2_v1 : Ref sig .tc := ⟨.hbm, 54, rfl⟩
abbrev main_v31 : Ref sig .tc := ⟨.hbm, 55, rfl⟩
abbrev main_v32 : Ref sig .tc := ⟨.hbm, 56, rfl⟩
abbrev main_c_13 : Ref sig .tc := ⟨.hbm, 57, rfl⟩
abbrev main_v33 : Ref sig .tc := ⟨.hbm, 58, rfl⟩
abbrev main_v34 : Ref sig .tc := ⟨.hbm, 59, rfl⟩
abbrev main_c_14 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== Proof.Stores.lean ====
module

public import proofs.«01_k».proof.Proof.Gen.KernelIdeal.Frame
public import Idealize.ShloMosaic.Lib.Pipeline.Value
public import Idealize.ShloMosaic.Lib.Pipeline.ValueKit.Tiles

/-! The stores a grid step makes into its weight scratch, as one family.

The kernel's body writes the decoded weights of a step in 45 stores of 64 rows each.  The run of the body lists
them one by one, last store first; here the same list is written once, as a function of the number of the store.
The three cases of the body (first, middle and last grid step) make the same stores. -/

@[expose] public section
noncomputable section

namespace Cert.KernelIdeal.Hand

open Cert.KernelIdeal Cert.KernelIdeal.Gen Idealize.ShloMosaic Idealize.ShloMosaic.TcCoe Idealize.SL.Sem

variable {F : FTy → Type} [FloatOps F]

/-- What one store writes: 64 rows of weights, from 32 rows of code bytes and two rows of scale words. -/
def blockVal (s : IVec S2x1280 32) (v : Vec F S32x1280 .i8) : FVec F S64x1280 .bf16 :=
  k0_pay11 s (k0_pay6 v) (k0_pay8 v) (k0_pay9 v) (k0_pay10 v)

/-- The 64 rows of store `q` (counted from the last) lie in the scratch. -/
theorem fitsW (q : Fin 45) (a : Fin 2) :
    (![64 * (44 - q.val), 0] : Fin 2 → Nat) a + S64x1280.size a ≤ S2880x1280.size a := by
  fin_cases a
  · show 64 * (44 - q.val) + 64 ≤ 2880; omega
  · show 0 + 1280 ≤ 1280; omega

/-- The 32 rows of codes of store `q` lie in the block of codes. -/
theorem fitsC (q : Fin 45) (a : Fin 2) :
    (![32 * (44 - q.val), 0] : Fin 2 → Nat) a + S32x1280.size a ≤ S1440x1280.size a := by
  fin_cases a
  · show 32 * (44 - q.val) + 32 ≤ 1440; omega
  · show 0 + 1280 ≤ 1280; omega

/-- The two rows of scales of store `q` lie in the block of scales. -/
theorem fitsS (q : Fin 45) : S90x1280.Slices ![2 * (44 - q.val), 0] S2x1280 := ⟨rfl, fun a => by
  fin_cases a
  · show 2 * (44 - q.val) + 2 ≤ 90; omega
  · show 0 + 1280 ≤ 1280; omega⟩

/-- The 45 stores of a step, last first: store `q` writes the block decoded from 32 rows of the codes read from
    `arg2` and two rows of the scales read from `arg3`. -/
def stores (arg2 : Memref sig .tc .vmem S1440x1280 .i8) (harg2 : arg2.IsWhole)
    (arg3 : Memref sig .tc .vmem S90x1280 .i8) (harg3 : arg3.IsWhole) (x1 : Vec F S1440x1280 .i8)
    (x2 : Vec F S90x1280 .i8) : List (View.Piece (Elt F) S2880x1280 .bf16) :=
  List.ofFn fun q : Fin 45 => ⟨Rect.unit (s := S2880x1280) ![64 * (44 - q.val), 0] S64x1280.size (fitsW q),
    blockVal
      (extractStridedSlice S2x1280 ![2 * (44 - q.val), 0]
        (k0_pay3 (View.readAt (Elt F) arg3.view
          (Rect.unit (s := S90x1280) ![0, 0] S90x1280.size inb_S90x1280_S90x1280_0_0).toLoadRect (harg3.unread x2)))
        (fitsS q))
      (View.readAt (Elt F) arg2.view
        (Rect.unit (s := S1440x1280) ![32 * (44 - q.val), 0] S32x1280.size (fitsC q)).toLoadRect (harg2.unread x1))⟩

variable (c : Dev nD) (arg2 : Memref sig .tc .vmem S1440x1280 .i8) (harg2 : arg2.IsWhole)
  (arg3 : Memref sig .tc .vmem S90x1280 .i8) (harg3 : arg3.IsWhole) (x1 : Vec F S1440x1280 .i8) (x2 : Vec F S90x1280 .i8)

/-- The first step's stores are the family. -/
theorem stores_A : kernelRun0_A.sl.HS0_45 c arg2 harg2 arg3 harg3 x1 x2 = stores arg2 harg2 arg3 harg3 x1 x2 := by rfl

/-- A middle step's stores are the family. -/
theorem stores_B : kernelRun0_B.sl.HS0_45 c arg2 harg2 arg3 harg3 x1 x2 = stores arg2 harg2 arg3 harg3 x1 x2 := by rfl

/-- The last step's stores are the family. -/
theorem stores_C : kernelRun0_C.sl.HS0_45 c arg2 harg2 arg3 harg3 x1 x2 = stores arg2 harg2 arg3 harg3 x1 x2 := by rfl

end Cert.KernelIdeal.Hand
end
-- ==== Proof.Words.lean ====
module

public import Idealize.ShloMosaic.Lib.Pointwise

/-! What one code byte and one scale byte mean, and that the kernel's integer arithmetic finds it.

A code byte carries two fp4 (e2m1) numbers; `codeBits c n` is the bf16 bit pattern of number `n` (0 the low
nibble, 1 the high nibble) as the reference computes it, `scaleVal e` the reference's power of two of a scale
byte.  The kernel builds the same patterns in other words: both nibbles' patterns in the halves of one 32-bit
word (`codeWord`), and the scale byte shifted to the exponent field of both halves of a word (`scaleWord`). -/

@[expose] public section
noncomputable section

namespace Cert.Hand

open Idealize.ShloMosaic

/-- The shift that brings nibble `n` of a byte to the bottom: 0 or 4. -/
def nibShift (n : Fin 2) : BitVec 32 := BitVec.ofNat 32 (4 * n.val)

/-- Nibble `n` of a code byte, as a 32-bit word. -/
def nib (c : BitVec 8) (n : Fin 2) : BitVec 32 :=
  IntOp.andi (IntOp.shrui ArithUnit.host (BitVec.setWidth 32 c) (nibShift n)) 15#32

/-- The bf16 pattern of nibble `n` of a code byte, as the reference computes it: a magnitude of two or more has
    its exponent and mantissa moved in place and rebased, one is the subnormal 0.5, zero is zero; the sign bit goes
    to the top. -/
def codeBits (c : BitVec 8) (n : Fin 2) : BitVec 16 :=
  BitVec.setWidth 16 (IntOp.ori
    (Scalar.select (IntOp.cmpi CmpIPredicate.uge (IntOp.andi (nib c n) 7#32) 2#32)
      (IntOp.shli ArithUnit.host (IntOp.addi (IntOp.andi (nib c n) 7#32) 252#32) 6#32)
      (Scalar.select (IntOp.cmpi CmpIPredicate.eq (IntOp.andi (nib c n) 7#32) 1#32) 16128#32 0#32))
    (IntOp.shli ArithUnit.host (IntOp.andi (nib c n) 8#32) 12#32))

/-- The number a scale byte means in the reference: two to the byte less 127, with the two ends of the range set
    to infinity and to zero. -/
def scaleVal (e : BitVec 8) : EReal :=
  Scalar.select (IntOp.cmpi CmpIPredicate.sgt (IntOp.subi (BitVec.setWidth 32 e) 127#32) 127#32)
    (Ideal.ofBits FTy.f32 2139095040#32)
    (Scalar.select (IntOp.cmpi CmpIPredicate.slt (IntOp.subi (BitVec.setWidth 32 e) 127#32) 4294967170#32)
      (Ideal.ofBits FTy.f32 0#32)
      (Ideal.pow (Ideal.ofBits FTy.f32 1073741824#32)
        (FloatOps.sitofp (F := Ideal) FTy.f32 (IntOp.subi (BitVec.setWidth 32 e) 127#32))))

/-- One weight: the number of nibble `n` of a code byte times the power of two of a scale byte. -/
def weight (code : BitVec 8) (n : Fin 2) (scale : BitVec 8) : EReal :=
  Ideal.ofBits .bf16 (codeBits code n) * scaleVal scale

/-- One nibble (in a 32-bit word) to its bf16 pattern (in the low half of a word), as the kernel computes it. -/
def nibWord (x : BitVec 32) : BitVec 32 :=
  IntOp.ori (IntOp.shli ArithUnit.vector (IntOp.andi x 8#32) 12#32)
    (Scalar.select (IntOp.cmpi CmpIPredicate.ugt (IntOp.andi x 7#32) 1#32)
      (IntOp.addi 16128#32 (IntOp.shli ArithUnit.vector (IntOp.andi x 7#32) 6#32))
      (IntOp.muli (IntOp.andi x 7#32) 16128#32))

/-- The kernel's word of a code byte: the low nibble's pattern in the low half, the high nibble's in the high. -/
def codeWord (c : BitVec 8) : BitVec 32 :=
  IntOp.ori (nibWord (IntOp.andi (BitVec.setWidth 32 c) 15#32))
    (IntOp.shli ArithUnit.vector (nibWord (IntOp.shrui ArithUnit.vector (BitVec.setWidth 32 c) 4#32)) 16#32)

/-- The kernel's word of a scale byte: the byte in the exponent field of both halves. -/
def scaleWord (e : BitVec 8) : BitVec 32 :=
  IntOp.ori (IntOp.shli ArithUnit.vector (BitVec.setWidth 32 e) 7#32)
    (IntOp.shli ArithUnit.vector (BitVec.setWidth 32 e) 23#32)

/-- What holds of each of the 256 bytes holds of every byte. -/
theorem forall_byte {P : BitVec 8 → Prop} (h : ∀ k : Fin 256, P (BitVec.ofFin k)) : ∀ e, P e := fun e => h e.toFin

/-- Half `n` of the kernel's word of a code byte is the reference's pattern of nibble `n` (all 256 bytes looked
    at). -/
theorem codeWord_half (c : BitVec 8) : ∀ n : Fin 2, (codeWord c).extractLsb' (16 * n.val) 16 = codeBits c n := by
  revert c
  refine forall_byte ?_
  decide +kernel

/-- Either half of the kernel's word of a scale byte is the byte shifted over the mantissa. -/
theorem scaleWord_half (e : BitVec 8) :
    ∀ n : Fin 2, (scaleWord e).extractLsb' (16 * n.val) 16 = BitVec.setWidth 16 e <<< 7 := by
  revert e
  refine forall_byte ?_
  decide +kernel

/-- The integer facts about the shifted byte: sign clear, exponent field the byte, mantissa zero; the byte less 127
    as a signed word; and which bytes the reference's two range tests catch. -/
theorem scaleBits_fields (e : BitVec 8) :
    (BitVec.setWidth 16 e <<< 7).extractLsb' 15 1 = 0#1
      ∧ ((BitVec.setWidth 16 e <<< 7).extractLsb' 7 8).toNat = e.toNat
      ∧ ((BitVec.setWidth 16 e <<< 7).extractLsb' 0 7).toNat = 0
      ∧ (IntOp.subi (BitVec.setWidth 32 e) 127#32).toInt = (e.toNat : Int) - 127
      ∧ (IntOp.cmpi CmpIPredicate.sgt (IntOp.subi (BitVec.setWidth 32 e) 127#32) 127#32 = 1 ↔ e.toNat = 255)
      ∧ (IntOp.cmpi CmpIPredicate.slt (IntOp.subi (BitVec.setWidth 32 e) 127#32) 4294967170#32 = 1 ↔ e.toNat = 0) := by
  revert e
  refine forall_byte ?_
  decide +kernel

/-- The number the kernel multiplies by is the reference's: the byte in the exponent field of a bf16 means the
    power of two, infinity at 255, zero at 0. -/
theorem scaleBits_val (e : BitVec 8) : Ideal.ofBits FTy.bf16 (BitVec.setWidth 16 e <<< 7) = scaleVal e := by
  obtain ⟨h1, h2, h3, h4, h5, h6⟩ := scaleBits_fields e
  have hinf : Ideal.ofBits FTy.f32 2139095040#32 = ⊤ := by simp [Ideal.ofBits, Ideal.ieee, -EReal.coe_mul]
  have hzero : Ideal.ofBits FTy.f32 0#32 = 0 := by simp [Ideal.ofBits, Ideal.ieee]
  have htwo : Ideal.ofBits FTy.f32 1073741824#32 = ((2 : ℝ) : EReal) := by
    simp [Ideal.ofBits, Ideal.ieee, -EReal.coe_mul]; norm_num
  have hsi : FloatOps.sitofp (F := Ideal) FTy.f32 (IntOp.subi (BitVec.setWidth 32 e) 127#32)
      = (((e.toNat : Int) - 127 : Int) : ℝ) := by
    rw [← h4]; rfl
  delta scaleVal Scalar.select
  rw [hinf, hzero, htwo, hsi]
  show Ideal.ieee 8 7 (BitVec.setWidth 16 e <<< 7) = _
  delta Ideal.ieee
  dsimp only
  rw [h1, h2, h3]
  have hlt := e.isLt
  by_cases a : e.toNat = 255
  · rw [if_pos (h5.mpr a)]; simp [a]
  · rw [if_neg (fun h => a (h5.mp h))]
    by_cases b : e.toNat = 0
    · rw [if_pos (h6.mpr b)]; simp [b]
    · rw [if_neg (fun h => b (h6.mp h))]
      simp only [a, b, if_false, Ideal.pow_coe_coe, Nat.reducePow, Nat.reduceSub]
      congr 1
      rw [Real.rpow_eq_pow, Real.rpow_intCast]
      norm_num
      rw [show (128 : ℝ) = 2 ^ (7 : ℤ) by norm_num, ← zpow_add₀ (by norm_num)]
      congr 1; omega

end Cert.Hand
end
-- ==== Proof.Block.lean ====
module

public import proofs.«01_k».proof.Proof.Stores
public import proofs.«01_k».proof.Proof.Words
public import Idealize.ShloMosaic.Lib.BitcastPair

/-! The value of one stored block: 64 rows of decoded weights from 32 rows of code bytes. -/

@[expose] public section
noncomputable section
namespace Cert.KernelIdeal.Hand
open Cert.KernelIdeal Cert.KernelIdeal.Gen Cert.Hand Idealize.ShloMosaic Idealize.ShloMosaic.TcCoe Idealize.SL.Sem

/-- A reinterpretation of 32-bit rows as 16-bit rows, read at a row and a column: half `r % 2` of row `r / 2`. -/
theorem bitcast_rows {M N K : Nat} (x : (⟨2, ![M, K]⟩ : Shape).Idx → BitVec 32)
    (h : (⟨2, ![M, K]⟩ : Shape).Bitcasts 32 ⟨2, ![N, K]⟩ 16) (r : Fin N) (k : Fin K) (q : Fin M) (hq : q.val = r.val / 2) :
    bitcast ⟨2, ![N, K]⟩ 16 x h (ix2 r k) = (x (ix2 q k)).extractLsb' (16 * (r.val % 2)) 16 := by
  rw [bitcast_32_16]
  show BitVec.extractLsb' (16 * (r.val % 2)) 16 _ = _
  congr 2
  funext a
  apply Fin.ext
  match a with
  | 0 => rw [Shape.Bitcasts.srcIdx_row _ _ _ _ 0 rfl]; exact hq.symm
  | 1 => rw [Shape.Bitcasts.srcIdx_other _ _ _ _ 1 (show ¬ (1 + 2 = 2) by decide)]; rfl

/-- One element of a stored block: row `r` is the code in half `r % 2` of byte row `r / 2`, decoded, times the value of
the half of scale word row `r / 32`. -/
theorem blockVal_apply (s : IVec S2x1280 32) (v : Vec Ideal S32x1280 .i8) (r : Fin 64) (k : Fin 1280) :
   blockVal (F := Ideal) s v (ix2 r k)
    = Ideal.ofBits .bf16 (codeBits (v (ix2 (⟨r.val / 2, by omega⟩ : Fin 32) k)) ⟨r.val % 2, by omega⟩)
      * Ideal.ofBits .bf16 ((s (ix2 (⟨r.val / 32, by omega⟩ : Fin 2) k)).extractLsb' (16 * (r.val % 2)) 16) := by
  have hcode := fun c => codeWord_half c ⟨r.val % 2, by omega⟩
  unfold blockVal
  unfold_payloads
  pointwise
  split
  · rename_i h
    have h0 : (⟨r.val / 32, by omega⟩ : Fin 2) = 0 := Fin.ext (show r.val / 32 = 0 by omega)
    rw [bitcast_rows _ _ r k ⟨r.val / 2, by omega⟩ rfl,
      bitcast_rows _ _ (⟨r.val, h⟩ : Fin 32) k ⟨r.val / 2, by omega⟩ rfl, ← hcode, h0]
    pointwise
    rfl
  · rename_i h
    have h1 : (⟨r.val / 32, by omega⟩ : Fin 2) = 1 := Fin.ext (show r.val / 32 = 1 by omega)
    have hr : (⟨32 + (r.val - 32), by omega⟩ : Fin 64) = r := Fin.ext (show 32 + (r.val - 32) = r.val by omega)
    have hp : (r.val - 32) % 2 = r.val % 2 := by omega
    rw [hr, bitcast_rows _ _ r k ⟨r.val / 2, by omega⟩ rfl,
      bitcast_rows _ _ (⟨r.val - 32, by omega⟩ : Fin 32) k ⟨(r.val - 32) / 2, by omega⟩ rfl, ← hcode, h1]
    pointwise
    rw [hp]
    rfl

end Cert.KernelIdeal.Hand
end
-- ==== Proof.Weights.lean ====
module

public import proofs.«01_k».proof.Proof.Block

/-! The weight scratch of a grid step, read back: every row and column holds its decoded weight. -/

@[expose] public section
noncomputable section

namespace Cert.KernelIdeal.Hand

open Cert.KernelIdeal Cert.KernelIdeal.Gen Cert.Hand Idealize.ShloMosaic Idealize.ShloMosaic.TcCoe Idealize.SL.Sem

/-- The zero offsets of a whole two-axis array. -/
theorem hz : (![0, 0] : Fin 2 → Nat) = fun _ => 0 := funext fun a => by fin_cases a <;> rfl

/-- The weight at a row and a column of a step: the nibble `r % 2` of the codes' row `r / 2`, under the scales' row
    `r / 32`. -/
def weightAt (x1 : Vec Ideal S1440x1280 .i8) (x2 : Vec Ideal S90x1280 .i8) (r : Fin 2880) (k : Fin 1280) : EReal :=
  weight (x1 (ix2 (⟨r.val / 2, by omega⟩ : Fin 1440) k)) ⟨r.val % 2, by omega⟩
    (x2 (ix2 (⟨r.val / 32, by omega⟩ : Fin 90) k))

/-- The weights of a step, as an array. -/
def weights (x1 : Vec Ideal S1440x1280 .i8) (x2 : Vec Ideal S90x1280 .i8) : FVec Ideal S2880x1280 .bf16 :=
  fun j => weightAt x1 x2 (j 0) (j 1)

/-- A scale word of a step at a row and a column. -/
theorem scaleWords_apply (x2 : Vec Ideal S90x1280 .i8) (b : Fin 90) (k : Fin 1280) :
    k0_pay3 x2 (ix2 b k) = scaleWord (x2 (ix2 b k)) := by
  unfold_payloads
  pointwise
  rfl

/-- The stores of a step leave the weights of the step in the scratch, whichever buffers they read from. -/
theorem stores_canon (arg2 : Memref sig .tc .vmem S1440x1280 .i8) (harg2 : arg2.IsWhole)
    (arg3 : Memref sig .tc .vmem S90x1280 .i8) (harg3 : arg3.IsWhole) (x1 : Vec Ideal S1440x1280 .i8)
    (x2 : Vec Ideal S90x1280 .i8) :
    View.canon (stores arg2 harg2 arg3 harg3 x1 x2) = weights x1 x2 := by
  funext y
  obtain ⟨r, k, rfl⟩ : ∃ r : Fin 2880, ∃ k : Fin 1280, y = ix2 r k := ⟨y 0, y 1, eq_ix2 y⟩
  unfold stores
  refine View.canon_ofFn_unit_eq_of_forall (Val := Elt Ideal) (S := S2880x1280) (e := .bf16)
    (fun q : Fin 45 => ![64 * (44 - q.val), 0]) S64x1280.size fitsW _ (ix2 r k) (weightAt x1 x2 r k)
    ⟨⟨44 - r.val / 64, by omega⟩, fun a => ?_⟩ fun q x hx => ?_
  · match a with
    | 0 => show 64 * (44 - (44 - r.val / 64)) ≤ r.val ∧ r.val < 64 * (44 - (44 - r.val / 64)) + 64; omega
    | 1 => show 0 ≤ k.val ∧ k.val < 0 + 1280; omega
  · obtain ⟨r', k', rfl⟩ : ∃ r : Fin 64, ∃ k : Fin 1280, x = ix2 r k := ⟨x 0, x 1, eq_ix2 x⟩
    have h0 : r.val = 64 * (44 - q.val) + r'.val := hx 0
    obtain rfl : k = k' := Fin.ext ((hx 1).trans (Nat.zero_add _))
    rw [View.readAt_eq_ld, View.readAt_eq_ld, harg2.read_unread, harg3.read_unread, View.ld_unit_zero (S := S90x1280) hz]
    refine (blockVal_apply _ _ r' k).trans ?_
    unfold weightAt weight
    congr 2
    · congr 1
      · refine congrArg x1 (funext fun a => Fin.ext ?_)
        match a with
        | 0 => show 32 * (44 - q.val) + 1 * (r'.val / 2) = r.val / 2; omega
        | 1 => show 0 + 1 * k.val = k.val; omega
      · exact Fin.ext (show r'.val % 2 = r.val % 2 by omega)
    · have hs : extractStridedSlice S2x1280 ![2 * (44 - q.val), 0] (k0_pay3 x2) (fitsS q)
          (ix2 (⟨r'.val / 32, by omega⟩ : Fin 2) k) = k0_pay3 x2 (ix2 (⟨r.val / 32, by omega⟩ : Fin 90) k) := by
        refine congrArg (k0_pay3 x2) (funext fun a => Fin.ext ?_)
        match a with
        | 0 => show 2 * (44 - q.val) + r'.val / 32 = r.val / 32; omega
        | 1 => show 0 + k.val = k.val; omega
      rw [hs, scaleWords_apply]
      exact (congrArg (Ideal.ofBits FTy.bf16) (scaleWord_half _ ⟨r'.val % 2, by omega⟩)).trans (scaleBits_val _)

end Cert.KernelIdeal.Hand
end
-- ==== Proof.Step.lean ====
module

public import proofs.«01_k».proof.Proof.Weights

/-! One grid step: the carried sum gains the products of the step's weights and its columns of `dy`.

The first step starts from zero, a middle step from what the step before left, and the last step also writes the sum
out as the result block. -/

@[expose] public section
noncomputable section

namespace Cert.KernelIdeal.Hand

open Cert.KernelIdeal Cert.KernelIdeal.Gen Cert.Hand Idealize.ShloMosaic Idealize.ShloMosaic.TcCoe Idealize.SL.Sem

/-- The sum after a step: what was carried, plus the step's weights times its columns of `dy`. -/
def stepSum (acc : Vec Ideal S2880x256 .f32) (x0 : Vec Ideal S256x1280 .bf16) (x1 : Vec Ideal S1440x1280 .i8)
    (x2 : Vec Ideal S90x1280 .i8) : Vec Ideal S2880x256 .f32 :=
  fun j => acc j + ∑ k : Fin 1280, weightAt x1 x2 (j 0) k * x0 (ix2 (j 1 : Fin 256) k)

/-- The sum before the first step. -/
def zeroSum : Vec Ideal S2880x256 .f32 := fun _ => (0 : EReal)

/-- The kernel's add of a matrix product, with the step's weights on the left. -/
theorem pay_step (acc : Vec Ideal S2880x256 .f32) (x0 : Vec Ideal S256x1280 .bf16) (x1 : Vec Ideal S1440x1280 .i8)
    (x2 : Vec Ideal S90x1280 .i8) :
    k0_pay1 (F := Ideal) acc (weights x1 x2) (k0_pay317 x0) (constant S2880x256 .f32 0x00000000#32) = stepSum acc x0 x1 x2 := by
  funext j
  obtain ⟨r, s, rfl⟩ : ∃ r : Fin 2880, ∃ s : Fin 256, j = ix2 r s := ⟨j 0, j 1, eq_ix2 j⟩
  unfold_payloads
  pointwise
  rfl

section Cases

variable (c : Dev nD) (i : grid0.Coords) (arg1 : Memref sig .tc .vmem S256x1280 .bf16) (harg1 : arg1.IsWhole)
  (arg2 : Memref sig .tc .vmem S1440x1280 .i8) (harg2 : arg2.IsWhole)
  (arg3 : Memref sig .tc .vmem S90x1280 .i8) (harg3 : arg3.IsWhole)
  (arg4 : Memref sig .tc .vmem S2880x256 .bf16) (harg4 : arg4.IsWhole)
  (arg5 : Memref sig .tc .vmem S2880x1280 .bf16) (harg5 : arg5.IsWhole)
  (arg6 : Memref sig .tc .vmem S2880x256 .f32) (harg6 : arg6.IsWhole)
  (x0 : Vec Ideal S256x1280 .bf16) (x1 : Vec Ideal S1440x1280 .i8) (x2 : Vec Ideal S90x1280 .i8)
  (xs : Vec Ideal S2880x256 .f32)

/-- The weight scratch, read whole after the stores of a step. -/
theorem read_stores : arg5.view.readCov (stores arg2 harg2 arg3 harg3 x1 x2)
      (Rect.unit ![0, 0] S2880x1280.size inb_S2880x1280_S2880x1280_0_0).toLoadRect = weights x1 x2 := by
  rw [View.readCov_eq_canon', stores_canon]
  funext j
  refine congrArg (weights x1 x2) (funext fun a => Fin.ext ?_)
  match a with
  | 0 => show 0 + 1 * (j 0).val = (j 0).val; omega
  | 1 => show 0 + 1 * (j 1).val = (j 1).val; omega

/-- What every step stores into the carried sum: the sum after the step, from the sum `v` it read. -/
theorem pay_eq (v : Vec Ideal S2880x256 .f32) :
    k0_pay1 (F := Ideal) v (arg5.view.readCov (stores arg2 harg2 arg3 harg3 x1 x2)
      (Rect.unit ![0, 0] S2880x1280.size inb_S2880x1280_S2880x1280_0_0).toLoadRect)
      (k0_pay317 (View.readAt (Elt Ideal) arg1.view
        (Rect.unit (s := S256x1280) ![0, 0] S256x1280.size inb_S256x1280_S256x1280_0_0).toLoadRect (harg1.unread x0)))
      (constant S2880x256 .f32 0x00000000#32) = stepSum v x0 x1 x2 := by
  rw [read_stores, View.readAt_eq_ld, harg1.read_unread, View.ld_unit_zero (S := S256x1280) hz, pay_step]

/-- The zero the first step stores before it reads the sum. -/
theorem zero_pay : kernelRun0_A.sl.v2711 (F := Ideal) c arg6 = zeroSum := by
  show arg6.view.readCov [(⟨Rect.unit (s := S2880x256) ![0, 0] S2880x256.size inb_S2880x256_S2880x256_0_0, _⟩ :
    View.Piece (Elt Ideal) S2880x256 .f32)] (Rect.unit (s := S2880x256) ![0, 0] S2880x256.size inb_S2880x256_S2880x256_0_0).toLoadRect = zeroSum
  refine (View.readCov_unit_zero (S := S2880x256) _ hz _ _).trans ?_
  funext j
  unfold_payloads
  pointwise
  rfl

/-- The first step: the carried sum becomes the step's own products, added to zero. -/
theorem sum_A (hc0 : cond0_0 i) (hc1 : ¬cond0_1 i) :
    sout0_A_1 c i arg1 harg1 arg2 harg2 arg3 harg3 arg4 harg4 arg5 harg5 arg6 harg6 hc0 hc1 x0 x1 x2
      = stepSum zeroSum x0 x1 x2 := by
  unfold sout0_A_1
  rw [View.read_writes_junk_eq_canon]
  unfold kernelRun0_A
  dsimp only
  refine (View.canon_cons_unit_zero (S := S2880x256) hz _ _ _).trans ?_
  rw [zero_pay]
  exact pay_eq arg1 harg1 arg2 harg2 arg3 harg3 arg5 x0 x1 x2 zeroSum

/-- A middle step: the carried sum becomes the sum after the step. -/
theorem sum_B (hc0 : ¬cond0_0 i) (hc1 : ¬cond0_1 i) :
    sout0_B_1 c i arg1 harg1 arg2 harg2 arg3 harg3 arg4 harg4 arg5 harg5 arg6 harg6 hc0 hc1 x0 x1 x2 xs
      = stepSum xs x0 x1 x2 := by
  unfold sout0_B_1
  rw [View.read_writes_junk_eq_canon]
  unfold kernelRun0_B
  dsimp only
  refine (View.canon_unit_zero (S := S2880x256) hz _ _).trans ?_
  have h6 : kernelRun0_B.sl.r_176 c arg6 harg6 xs = xs := by
    show View.readAt (Elt Ideal) arg6.view (Rect.unit (s := S2880x256) ![0, 0] S2880x256.size inb_S2880x256_S2880x256_0_0).toLoadRect (harg6.unread xs) = xs
    rw [View.readAt_eq_ld, harg6.read_unread, View.ld_unit_zero (S := S2880x256) hz]
  rw [h6]
  exact pay_eq arg1 harg1 arg2 harg2 arg3 harg3 arg5 x0 x1 x2 xs

/-- The last step's store into the carried sum. -/
theorem stored_C :
    kernelRun0_C.sl.HS1_1 c arg1 harg1 arg2 harg2 arg3 harg3 arg5 arg6 harg6 x0 x1 x2 xs
      = [(⟨Rect.unit (s := S2880x256) ![0, 0] S2880x256.size inb_S2880x256_S2880x256_0_0, stepSum xs x0 x1 x2⟩ :
          View.Piece (Elt Ideal) S2880x256 .f32)] := by
  have h6 : kernelRun0_C.sl.r_176 c arg6 harg6 xs = xs := by
    show View.readAt (Elt Ideal) arg6.view (Rect.unit (s := S2880x256) ![0, 0] S2880x256.size
      inb_S2880x256_S2880x256_0_0).toLoadRect (harg6.unread xs) = xs
    rw [View.readAt_eq_ld, harg6.read_unread, View.ld_unit_zero (S := S2880x256) hz]
  have h := pay_eq arg1 harg1 arg2 harg2 arg3 harg3 arg5 x0 x1 x2 (kernelRun0_C.sl.r_176 c arg6 harg6 xs)
  rw [h6] at h
  rw [← h]
  conv_rhs => rw [← h6]
  rfl

/-- The last step: the carried sum becomes the sum after the step … -/
theorem sum_C (hc0 : ¬cond0_0 i) (hc1 : cond0_1 i) :
    sout0_C_1 c i arg1 harg1 arg2 harg2 arg3 harg3 arg4 harg4 arg5 harg5 arg6 harg6 hc0 hc1 x0 x1 x2 xs
      = stepSum xs x0 x1 x2 := by
  unfold sout0_C_1
  rw [View.read_writes_junk_eq_canon]
  unfold kernelRun0_C
  dsimp only
  rw [stored_C]
  exact View.canon_unit_zero (S := S2880x256) hz _ _

/-- … and the result block is that sum. -/
theorem out_C (hc0 : ¬cond0_0 i) (hc1 : cond0_1 i) :
    out0_C_3 c i arg1 harg1 arg2 harg2 arg3 harg3 arg4 harg4 arg5 harg5 arg6 harg6 hc0 hc1 x0 x1 x2 xs
      = stepSum xs x0 x1 x2 := by
  unfold out0_C_3
  rw [View.read_writes_junk_eq_canon]
  unfold kernelRun0_C
  dsimp only
  refine (View.canon_unit_zero (S := S2880x256) hz _ _).trans ?_
  have h : kernelRun0_C.sl.v2723 c arg1 harg1 arg2 harg2 arg3 harg3 arg5 arg6 harg6 x0 x1 x2 xs = stepSum xs x0 x1 x2 := by
    show arg6.view.readCov (kernelRun0_C.sl.HS1_1 c arg1 harg1 arg2 harg2 arg3 harg3 arg5 arg6 harg6 x0 x1 x2 xs)
      (Rect.unit (s := S2880x256) ![0, 0] S2880x256.size inb_S2880x256_S2880x256_0_0).toLoadRect = _
    rw [stored_C]
    exact View.readCov_unit_zero (S := S2880x256) _ hz _ _
  rw [h]
  unfold_payloads
  funext j
  pointwise

end Cases

end Cert.KernelIdeal.Hand
end
-- ==== Proof.Blocks.lean ====
module

public import proofs.«01_k».proof.Proof.Gen.KernelIdeal.Frame
public import Idealize.ShloMosaic.Lib.Pipeline.Value
public import Idealize.ShloMosaic.Lib.Pointwise
public import Idealize.ShloMosaic.Lib.StableHlo.Run

/-! What each grid step reads: its blocks of the three arguments.

Before the kernel the host drops the unit axis of `dy` and transposes the codes and the scales; step `t` then reads
columns `1280 t … 1280 t + 1279` of each. -/

@[expose] public section
noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- The kernel's first operand: `dy` without its unit axis. -/
theorem V_dy : V m c main_v0
    = shapeCast S256x11520 (m ((c : Thread nD τ).loc main_arg0) : Vec F S1x256x11520 .bf16) shapeCasts_S1x256x11520_S256x11520 := by
  show StableHlo.after hostOps0 _ _ = _
  after_results
  rfl

/-- The kernel's second operand: the codes transposed. -/
theorem V_codes : V m c main_v1
    = transpose S1440x11520 [1, 0] (m ((c : Thread nD τ).loc main_arg1) : Vec F S11520x1440 .i8)
        transposes_S11520x1440_S1440x11520_1_0 := by
  show StableHlo.after hostOps0 _ _ = _
  after_results

/-- The kernel's third operand: the scales transposed. -/
theorem V_scales : V m c main_v2
    = transpose S90x11520 [1, 0] (m ((c : Thread nD τ).loc main_arg2) : Vec F S11520x90 .i8)
        transposes_S11520x90_S90x11520_1_0 := by
  show StableHlo.after hostOps0 _ _ = _
  after_results

/-- Column `k` of step `t` among all columns. -/
def col (t : Fin cfg0.N) (k : Fin 1280) : Fin 11520 :=
  ⟨1280 * t.val + k.val, by have h := t.isLt; have hN : cfg0.N = 9 := N_0; omega⟩

/-- Each window's block of step `t` is block column `t`. -/
theorem index_eq (t : Fin cfg0.N) :
    (win0_0.index t 0 = 0 ∧ win0_0.index t 1 = t.val) ∧ (win0_1.index t 0 = 0 ∧ win0_1.index t 1 = t.val)
      ∧ (win0_2.index t 0 = 0 ∧ win0_2.index t 1 = t.val) := by
  rcases fin_N0 t with rfl | rfl | rfl | rfl | rfl | rfl | rfl | rfl | rfl <;> decide

/-- Dropping the unit axis, read at a row and a column. -/
theorem drop_unit (x : Vec F S1x256x11520 .bf16) (s : Fin 256) (o : Fin 11520) :
    shapeCast S256x11520 x shapeCasts_S1x256x11520_S256x11520 (ix2 s o) = x (ix3 (0 : Fin 1) s o) := by
  pointwise

/-- Step `t`'s block of `dy`. -/
theorem blk_dy (t : Fin cfg0.N) (s : Fin 256) (k : Fin 1280) :
    (iblk m c 0 t : Vec F S256x1280 .bf16) (ix2 s k)
      = (m ((c : Thread nD τ).loc main_arg0) : Vec F S1x256x11520 .bf16) (ix3 (0 : Fin 1) s (col t k)) := by
  have hi := (index_eq t).1
  have hj : ((cfg0.win 0).blk t).view.read (Elt F) (V m c main_v0) (ix2 s k) = V m c main_v0 (ix2 s (col t k)) := by
    rw [View.read_apply]
    refine congrArg (V m c main_v0) (funext fun a => Fin.ext ?_)
    match a with
    | 0 => show win0_0.index t 0 * 256 + 1 * s.val = s.val; rw [hi.1]; omega
    | 1 => show win0_0.index t 1 * 1280 + 1 * k.val = 1280 * t.val + k.val; rw [hi.2]; omega
  refine hj.trans ?_
  rw [V_dy]
  exact drop_unit _ s (col t k)

/-- Step `t`'s block of the codes. -/
theorem blk_codes (t : Fin cfg0.N) (j : Fin 1440) (k : Fin 1280) :
    (iblk m c 1 t : Vec F S1440x1280 .i8) (ix2 j k)
      = (m ((c : Thread nD τ).loc main_arg1) : Vec F S11520x1440 .i8) (ix2 (col t k) j) := by
  have hi := (index_eq t).2.1
  have hj : ((cfg0.win 1).blk t).view.read (Elt F) (V m c main_v1) (ix2 j k) = V m c main_v1 (ix2 j (col t k)) := by
    rw [View.read_apply]
    refine congrArg (V m c main_v1) (funext fun a => Fin.ext ?_)
    match a with
    | 0 => show win0_1.index t 0 * 1440 + 1 * j.val = j.val; rw [hi.1]; omega
    | 1 => show win0_1.index t 1 * 1280 + 1 * k.val = 1280 * t.val + k.val; rw [hi.2]; omega
  refine hj.trans ?_
  rw [V_codes]
  pointwise

/-- Step `t`'s block of the scales. -/
theorem blk_scales (t : Fin cfg0.N) (b : Fin 90) (k : Fin 1280) :
    (iblk m c 2 t : Vec F S90x1280 .i8) (ix2 b k)
      = (m ((c : Thread nD τ).loc main_arg2) : Vec F S11520x90 .i8) (ix2 (col t k) b) := by
  have hi := (index_eq t).2.2
  have hj : ((cfg0.win 2).blk t).view.read (Elt F) (V m c main_v2) (ix2 b k) = V m c main_v2 (ix2 b (col t k)) := by
    rw [View.read_apply]
    refine congrArg (V m c main_v2) (funext fun a => Fin.ext ?_)
    match a with
    | 0 => show win0_2.index t 0 * 90 + 1 * b.val = b.val; rw [hi.1]; omega
    | 1 => show win0_2.index t 1 * 1280 + 1 * k.val = 1280 * t.val + k.val; rw [hi.2]; omega
  refine hj.trans ?_
  rw [V_scales]
  pointwise

end Cert.KernelIdeal.Hand
end
-- ==== Proof.Sums.lean ====
module

public import proofs.«01_k».proof.Proof.Step
public import proofs.«01_k».proof.Proof.Blocks

/-! The carried sum over the grid: after step `n` it is the sum over the first `1280 (n + 1)` columns. -/

@[expose] public section
noncomputable section

namespace Cert.KernelIdeal.Hand

open Cert.KernelIdeal Cert.KernelIdeal.Gen Cert.Hand Idealize.ShloMosaic Idealize.ShloMosaic.TcCoe Idealize.SL.Sem

variable (m : (ℓ : Loc nD τ sig) → Buf (Elt Ideal) ℓ) (c : Dev nD)

/-- The three arguments as the launch finds them. -/
abbrev dy : Vec Ideal S1x256x11520 .bf16 := m ((c : Thread nD τ).loc main_arg0)
abbrev codes : Vec Ideal S11520x1440 .i8 := m ((c : Thread nD τ).loc main_arg1)
abbrev scales : Vec Ideal S11520x90 .i8 := m ((c : Thread nD τ).loc main_arg2)

/-- One product of the result at output feature `r` and row `s`: weight `(o, r)` times `dy` at `(s, o)`. -/
def prod (r : Fin 2880) (s : Fin 256) (o : Fin 11520) : EReal :=
  weight (codes m c (ix2 o (⟨r.val / 2, by omega⟩ : Fin 1440))) ⟨r.val % 2, by omega⟩
      (scales m c (ix2 o (⟨r.val / 32, by omega⟩ : Fin 90)))
    * dy m c (ix3 (0 : Fin 1) s o)

/-- The same over all natural numbers: nothing beyond the last column. -/
def prodN (r : Fin 2880) (s : Fin 256) (o : ℕ) : EReal := if h : o < 11520 then prod m c r s ⟨o, h⟩ else 0

/-- The sum over the first `n` columns, as an array. -/
def partSum (n : ℕ) : Vec Ideal S2880x256 .f32 := fun j => ∑ o ∈ Finset.range n, prodN m c (j 0) (j 1) o

/-- A step adds its own 1280 columns. -/
theorem stepSum_part (t : Fin cfg0.N) :
    stepSum (partSum m c (1280 * t.val)) (iblk m c 0 t) (iblk m c 1 t) (iblk m c 2 t) = partSum m c (1280 * (t.val + 1)) := by
  funext j
  obtain ⟨r, s, rfl⟩ : ∃ r : Fin 2880, ∃ s : Fin 256, j = ix2 r s := ⟨j 0, j 1, eq_ix2 j⟩
  show (∑ o ∈ Finset.range (1280 * t.val), prodN m c r s o)
      + (∑ k : Fin 1280, weightAt (iblk m c 1 t) (iblk m c 2 t) r k * (iblk m c 0 t : Vec Ideal S256x1280 .bf16) (ix2 s k))
    = ∑ o ∈ Finset.range (1280 * (t.val + 1)), prodN m c r s o
  rw [Nat.mul_succ, Finset.sum_range_add, Finset.sum_range (fun x => prodN m c r s (1280 * t.val + x))]
  refine congrArg _ (Finset.sum_congr rfl fun k _ => ?_)
  have hcol : 1280 * t.val + k.val < 11520 := (col t k).isLt
  unfold prodN weightAt
  rw [dif_pos hcol, blk_dy, blk_codes, blk_scales]
  rfl

/-- After step `n` the carried sum is the sum over the first `1280 (n + 1)` columns. -/
theorem carried_eq : ∀ (n : ℕ) (h : n < cfg0.N), (outsAt0 m c n h).2 = partSum m c (1280 * (n + 1))
  | 0, h => by
    have e := outsAt0_A m c ⟨0, h⟩ rfl (show ¬ 0 % 9 = 8 by decide)
    have z : zeroSum = partSum m c (1280 * 0) := by
      funext j; exact (Finset.sum_range_zero _).symm
    rw [e]
    dsimp only
    rw [sum_A, z]
    exact stepSum_part m c ⟨0, h⟩
  | n + 1, h => by
    have hN : cfg0.N = 9 := N_0
    have ih := carried_eq n (Nat.lt_of_succ_lt h)
    have h0 : ¬(⟨n + 1, h⟩ : Fin cfg0.N).val % 9 = 0 := by show ¬ (n + 1) % 9 = 0; omega
    by_cases h1 : (⟨n + 1, h⟩ : Fin cfg0.N).val % 9 = 8
    · rw [outsAt0_C m c ⟨n + 1, h⟩ h0 h1]
      dsimp only
      rw [sum_C]
      show stepSum (outsAt0 m c n _).2 _ _ _ = _
      rw [ih]
      exact stepSum_part m c ⟨n + 1, h⟩
    · rw [outsAt0_B m c ⟨n + 1, h⟩ h0 h1]
      dsimp only
      rw [sum_B]
      show stepSum (outsAt0 m c n _).2 _ _ _ = _
      rw [ih]
      exact stepSum_part m c ⟨n + 1, h⟩

/-- The block the last step writes out: the sum over all columns. -/
theorem written_eq (h : 8 < cfg0.N) : (outsAt0 m c 8 h).1 = partSum m c 11520 := by
  have e := outsAt0_C m c ⟨8, h⟩ (show ¬ 8 % 9 = 0 by decide) rfl
  have ih := carried_eq m c 7 (Nat.lt_of_succ_lt h)
  rw [e]
  dsimp only
  rw [out_C]
  show stepSum (outsAt0 m c 7 _).2 _ _ _ = _
  rw [ih]
  exact stepSum_part m c ⟨8, h⟩

end Cert.KernelIdeal.Hand
end
-- ==== Proof.Result.lean ====
module

public import proofs.«01_k».proof.Proof.Sums

/-! The kernel's result: the array the last step writes, transposed and given its unit axis back by the host. -/

@[expose] public section
noncomputable section

namespace Cert.KernelIdeal.Hand

open Cert.KernelIdeal Cert.KernelIdeal.Gen Cert.Hand Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- What the kernel's array holds in the end. -/
abbrev written : Buf (Elt Ideal) ((c : Thread nD τ).loc main_v3) := partSum m c 11520

/-- The one write-back, at the last step, writes it: its block is the whole array. -/
theorem flushed_eq (t : Fin cfg0.N) (hf : (cfg0.win 3).flush t = true) :
    (dats m 0 c).flushed 3 t = ((cfg0.win 3).blk t).view.read (Elt Ideal) (written m c) := by
  have hN : cfg0.N = 9 := N_0
  have h8 : t.val = 8 := by have := (flush0_3 t).mp hf; have := t.isLt; omega
  obtain rfl : t = t0_8 := Fin.ext h8
  show (cfg0.win 3).cut (grid0.coords t0_8) ((dats m 0 c).after 3 t0_8) = _
  rw [after0_3]
  refine (congrArg ((cfg0.win 3).cut (grid0.coords t0_8)) (written_eq m c t0_8.isLt)).trans ?_
  have hz' : (fun a => win0_3.index t0_8 a * main_v3.ty.shape.size a) = fun _ => 0 :=
    funext fun a => by fin_cases a <;> decide
  exact (Memref.read_access_unit_zero (Elt Ideal) main_v3 hz' (fun a => by rw [congrFun hz' a]; simp) (written m c)).symm

/-- So the kernel's array ends at the sum over all columns. -/
theorem final_eq : (dats m 0 c).arrAt 3 cfg0.N = written m c :=
  (dats m 0 c).arrAt_eq_of_cover 3 (written m c) (flushed_eq m c) fun i =>
    ⟨t0_8, (flush0_3 t0_8).mpr rfl, by
      show i ∈ ((View.whole main_v3).slice (win0_3.rect t0_8)).set
      rw [View.set_slice_whole, Rect.mem_set_unit]
      intro a
      have h0 : (i 0 : Nat) < 2880 := (i 0).isLt
      have h1 : (i 1 : Nat) < 256 := (i 1).isLt
      match a with
      | ⟨0, _⟩ =>
        show win0_3.index t0_8 0 * win0_3.size 0 ≤ (i 0 : Nat)
          ∧ (i 0 : Nat) < win0_3.index t0_8 0 * win0_3.size 0 + win0_3.xsize (grid0.coords t0_8) 0
        rw [show win0_3.index t0_8 0 * win0_3.size 0 = 0 from by decide +kernel,
          show win0_3.xsize (grid0.coords t0_8) 0 = 2880 from by decide +kernel]
        omega
      | ⟨1, _⟩ =>
        show win0_3.index t0_8 1 * win0_3.size 1 ≤ (i 1 : Nat)
          ∧ (i 1 : Nat) < win0_3.index t0_8 1 * win0_3.size 1 + win0_3.xsize (grid0.coords t0_8) 1
        rw [show win0_3.index t0_8 1 * win0_3.size 1 = 0 from by decide +kernel,
          show win0_3.xsize (grid0.coords t0_8) 1 = 256 from by decide +kernel]
        omega⟩

/-- The kernel's result: the array transposed, with the unit axis in front. -/
def result : Vec Ideal S1x256x2880 .bf16 :=
  shapeCast S1x256x2880 (transpose S256x2880 [1, 0] (written m c : Vec Ideal S2880x256 .bf16)
    transposes_S2880x256_S256x2880_1_0) shapeCasts_S256x2880_S1x256x2880

/-- The lines after the kernel leave the result in `main_v5`. -/
theorem tail_eq : Pipeline.afterTail₀ cfgs (dats m) 0 (V0 m) [hostOps1] c main_v5 = result m c := by
  unfold Pipeline.afterTail₀
  have h3 : Pipeline.withArrays (cfgs 0).spec c (V0 m c) (fun w => (dats m 0 c).arrAt w (cfgs 0).N)
      (Proc.devRef .tc main_v3) = written m c :=
    (Pipeline.withArrays_arr (cfgs 0).spec (by decide) c (V0 m c) (fun w => (dats m 0 c).arrAt w (cfgs 0).N) 3).trans
      (final_eq m c)
  show StableHlo.after hostOps1 _ _ = _
  after_results
  rw [h3]
  rfl

/-- The result at row `s` and feature `r`: the sum over all columns of weight times `dy`. -/
theorem result_apply (s : Fin 256) (r : Fin 2880) :
    result m c (ix3 (0 : Fin 1) s r) = ∑ o : Fin 11520, prod m c r s o := by
  have e : result m c (ix3 (0 : Fin 1) s r) = (written m c : Vec Ideal S2880x256 .bf16) (ix2 r s) := by
    unfold result
    pointwise
  refine e.trans ((Finset.sum_range (fun o => prodN m c r s o)).trans (Finset.sum_congr rfl fun o _ => ?_))
  unfold prodN
  rw [dif_pos o.isLt]

/-- The run of the program: the result as above, the arguments as they were. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand
end
-- ==== Proof.Reference.lean ====
module

public import proofs.«01_k».proof.Proof.Gen.ReferenceIdeal.Run
public import proofs.«01_k».proof.Proof.Words

/-! What the reference computes: at row `s` and feature `p`, the sum over all columns of the decoded weight times
`dy`. -/

@[expose] public section
noncomputable section

namespace Cert.ReferenceIdeal.Hand

open Cert.ReferenceIdeal Cert.ReferenceIdeal.Gen Cert.Hand Idealize.ShloMosaic Idealize.ShloMosaic.TcCoe Idealize.SL.Sem

variable (m : (ℓ : Loc nD τ sig) → Buf (Elt Ideal) ℓ) (c : Dev nD)

/-- The reference's table of shifts: 0 for the low nibble, 4 for the high one. -/
theorem shift_eq (n : Fin 2) : lit0 (S2.rowMajor (ix1 n)) = nibShift n := by
  fin_cases n <;> decide

/-- The reference at row `s` and feature `p`. -/
theorem result_apply (s : Fin 256) (p : Fin 2880) :
    (Value.res_main_v48 m c : Vec Ideal S1x256x2880 .bf16) (ix3 (0 : Fin 1) s p)
      = ∑ o : Fin 11520,
          weight ((m ((c : Thread nD τ).loc main_arg1) : Vec Ideal S11520x1440 .i8) (ix2 o (⟨p.val / 2, by omega⟩ : Fin 1440)))
              ⟨p.val % 2, by omega⟩
              ((m ((c : Thread nD τ).loc main_arg2) : Vec Ideal S11520x90 .i8) (ix2 o (⟨p.val / 32, by omega⟩ : Fin 90)))
            * (m ((c : Thread nD τ).loc main_arg0) : Vec Ideal S1x256x11520 .bf16) (ix3 (0 : Fin 1) s o) := by
  have h2 : ∀ h, (⟨p.val / 2 / 16 * 16 + p.val / 2 % 16, h⟩ : Fin 1440) = ⟨p.val / 2, by omega⟩ := fun _ =>
    Fin.ext (show p.val / 2 / 16 * 16 + p.val / 2 % 16 = p.val / 2 by omega)
  have h32 : ∀ h, (⟨p.val / 2 / 16, h⟩ : Fin 90) = ⟨p.val / 32, by omega⟩ := fun _ =>
    Fin.ext (show p.val / 2 / 16 = p.val / 32 by omega)
  unfold Value.res_main_v48
  pointwise
  show (_ : EReal) = _
  refine Finset.sum_congr rfl fun o _ => ?_
  rw [shift_eq]
  simp only [h2, h32]
  rfl

end Cert.ReferenceIdeal.Hand
end
-- ==== Proof.Equation.lean ====
module

public import proofs.«01_k».proof.Proof.Result
public import proofs.«01_k».proof.Proof.Reference

/-! The equation: from the same arguments the kernel and the reference end at the same result.  Both are, at every row
and feature, the sum over all columns of the same decoded weight times the same element of `dy`. -/

@[expose] public section
noncomputable section

namespace Cert.Hand

open Idealize.ShloMosaic Idealize.ShloMosaic.TcCoe Idealize.SL.Sem

/-- The kernel's result and the reference's, from memories that agree on the arguments. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Value.res_main_v48 m' c : Vec Ideal Cert.KernelIdeal.S1x256x2880 .bf16)
      = Cert.KernelIdeal.Hand.result m c := by
  funext j
  obtain ⟨s, r, rfl⟩ : ∃ s : Fin 256, ∃ r : Fin 2880, j = ix3 (0 : Fin 1) s r :=
    ⟨j 1, j 2, (eq_ix3 j).trans (congrArg (fun z : Fin 1 => ix3 z (j 1 : Fin 256) (j 2 : Fin 2880)) (Fin.fin_one_eq_zero _))⟩
  refine (Cert.ReferenceIdeal.Hand.result_apply m' c s r).trans ?_
  rw [Cert.KernelIdeal.Hand.result_apply]
  show (_ : EReal) = _
  refine Finset.sum_congr rfl fun o _ => ?_
  rw [h0, h1, h2]
  rfl

end Cert.Hand
end
-- ==== Proof.lean ====
/- The proof of the certificate's claim: the program, its idealization and the reference each run to the end with
   their arguments unchanged and every counter at zero; the idealization is the program's own text; and the
   idealization and the reference end at equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, its arguments end unchanged, and its counters at zero (it has none). -/
theorem frame_reference : Cert.quiescent_ReferenceIdeal (hReferenceIdeal := Cert.ReferenceIdeal.Gen.facts) :=
  fun m g _ => θ_run_mono (Cert.ReferenceIdeal.Value.run (F := Ideal) m g) fun r h =>
    ⟨fun c => (h c).2, sem_eq_zero_of_no_sems (by decide) r.2⟩

/-- The kernel's idealization and the reference end at equal results. -/
theorem equal_results : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Hand.result m c, Cert.KernelIdeal.Hand.run m g,
    θ_run_mono (Cert.ReferenceIdeal.Value.run (F := Ideal) m' g') fun _ h c =>
      ⟨(h c).1.trans (Cert.Hand.results_eq m m' c (hagree c).1 (hagree c).2.1 (hagree c).2.2), (h c).2⟩⟩

/-- The certificate's claim. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial,
    equal_results⟩

end Cert.Proof

end
